-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S48x1x10880 : Shape := ⟨3, ![48, 1, 10880]⟩
abbrev S5440x29824 : Shape := ⟨2, ![5440, 29824]⟩
abbrev S680x29824 : Shape := ⟨2, ![680, 29824]⟩
abbrev S_ : Shape := ⟨0, ![]⟩
abbrev S1 : Shape := ⟨1, ![1]⟩
abbrev S48x10880 : Shape := ⟨2, ![48, 10880]⟩
abbrev S48x29824 : Shape := ⟨2, ![48, 29824]⟩
abbrev S5440x768 : Shape := ⟨2, ![5440, 768]⟩
abbrev S680x768 : Shape := ⟨2, ![680, 768]⟩
abbrev S48x768 : Shape := ⟨2, ![48, 768]⟩
abbrev S256x768 : Shape := ⟨2, ![256, 768]⟩
abbrev S256x1x768 : Shape := ⟨3, ![256, 1, 768]⟩
abbrev S256x2x768 : Shape := ⟨3, ![256, 2, 768]⟩
abbrev S512x768 : Shape := ⟨2, ![512, 768]⟩
abbrev S32x768 : Shape := ⟨2, ![32, 768]⟩
abbrev S32x16x768 : Shape := ⟨3, ![32, 16, 768]⟩
abbrev S32x1x768 : Shape := ⟨3, ![32, 1, 768]⟩
abbrev S48x512 : Shape := ⟨2, ![48, 512]⟩
abbrev S64x768 : Shape := ⟨2, ![64, 768]⟩
abbrev S64x1x768 : Shape := ⟨3, ![64, 1, 768]⟩
abbrev S64x2x768 : Shape := ⟨3, ![64, 2, 768]⟩
abbrev S128x768 : Shape := ⟨2, ![128, 768]⟩
abbrev S8x768 : Shape := ⟨2, ![8, 768]⟩
abbrev S8x16x768 : Shape := ⟨3, ![8, 16, 768]⟩
abbrev S8x1x768 : Shape := ⟨3, ![8, 1, 768]⟩
abbrev S48x128 : Shape := ⟨2, ![48, 128]⟩

abbrev nBuf : Space → Nat
  | .hbm => 7
  | .vmem => 8
  | .smem => 1
  | _ => 0

abbrev bufTy : (tb : Table) → Fin (tcTables nBuf tb) → BufTy
  | .hbm, ⟨0, _⟩ => ⟨S48x1x10880, .bf16⟩
  | .hbm, ⟨1, _⟩ => ⟨S5440x29824, .i8⟩
  | .hbm, ⟨2, _⟩ => ⟨S680x29824, .fp8e4m3⟩
  | .hbm, ⟨3, _⟩ => ⟨S_, .f32⟩
  | .hbm, ⟨4, _⟩ => ⟨S1, .f32⟩
  | .hbm, ⟨5, _⟩ => ⟨S48x10880, .bf16⟩
  | .hbm, ⟨6, _⟩ => ⟨S48x29824, .bf16⟩
  | .local _ .vmem, ⟨0, _⟩ => ⟨S48x10880, .bf16⟩
  | .local _ .vmem, ⟨1, _⟩ => ⟨S5440x768, .i8⟩
  | .local _ .vmem, ⟨2, _⟩ => ⟨S5440x768, .i8⟩
  | .local _ .vmem, ⟨3, _⟩ => ⟨S680x768, .fp8e4m3⟩
  | .local _ .vmem, ⟨4, _⟩ => ⟨S680x768, .fp8e4m3⟩
  | .local _ .vmem, ⟨5, _⟩ => ⟨S48x768, .bf16⟩
  | .local _ .vmem, ⟨6, _⟩ => ⟨S48x768, .bf16⟩
  | .local _ .vmem, ⟨7, _⟩ => ⟨S48x768, .f32⟩
  | .local _ .smem, ⟨0, _⟩ => ⟨S1, .f32⟩
  | _, _ => ⟨S48x1x10880, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .smem, ⟨0, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg1_0 : Ref sig .tc := ⟨.vmem, 0, rfl⟩
abbrev cc0_stg2_0 : Ref sig .tc := ⟨.vmem, 1, rfl⟩
abbrev cc0_stg2_1 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![39], ![false]⟩

@[reducible] def k0_t1_loop : Scf.Loop 32 :=
  let c0_i32 : BitVec 32 := 0#32
  let c21_i32 : BitVec 32 := 21#32
  let v4 : BitVec 32 := Scalar.addi c0_i32 c21_i32
  let c1_i32 : BitVec 32 := 1#32
  ⟨c0_i32, v4, c1_i32⟩
def k0_off1 (k0_t1 : Fin k0_t1_loop.trips) : Fin 2 → Nat :=
  let c0_i32_31 : BitVec 32 := 0#32
  let c0_i32 : BitVec 32 := 0#32
  let c1_i32 : BitVec 32 := 1#32
  let arg7 : BitVec 32 := Scf.iv c0_i32 c1_i32 k0_t1
  let c1_i32_30 : BitVec 32 := 1#32
  let v70 : BitVec 32 := Scalar.muli arg7 c1_i32_30
  let v71 : BitVec 32 := Scalar.addi c0_i32_31 v70
  let c256_i32 : BitVec 32 := 256#32
  let v72 : BitVec 32 := Scalar.muli v71 c256_i32
  let v73 : Index := Scalar.indexCast v72
  let c0_32 : Index := 0#32
  ![v73.toNat, 0]
def k0_off2 (k0_t1 : Fin k0_t1_loop.trips) : Fin 2 → Nat :=
  let c0_i32_31 : BitVec 32 := 0#32
  let c0_i32 : BitVec 32 := 0#32
  let c1_i32 : BitVec 32 := 1#32
  let arg7 : BitVec 32 := Scf.iv c0_i32 c1_i32 k0_t1
  let c1_i32_30 : BitVec 32 := 1#32
  let v70 : BitVec 32 := Scalar.muli arg7 c1_i32_30
  let v71 : BitVec 32 := Scalar.addi c0_i32_31 v70
  let c32_i32 : BitVec 32 := 32#32
  let v118 : BitVec 32 := Scalar.muli v71 c32_i32
  let v119 : Index := Scalar.indexCast v118
  let c0_52 : Index := 0#32
  ![v119.toNat, 0]
def k0_off3 (k0_t1 : Fin k0_t1_loop.trips) : Fin 2 → Nat :=
  let c0_53 : Index := 0#32
  let c0_i32_31 : BitVec 32 := 0#32
  let c0_i32 : BitVec 32 := 0#32
  let c1_i32 : BitVec 32 := 1#32
  let arg7 : BitVec 32 := Scf.iv c0_i32 c1_i32 k0_t1
  let c1_i32_30 : BitVec 32 := 1#32
  let v70 : BitVec 32 := Scalar.muli arg7 c1_i32_30
  let v71 : BitVec 32 := Scalar.addi c0_i32_31 v70
  let c512_i32 : BitVec 32 := 512#32
  let v127 : BitVec 32 := Scalar.muli v71 c512_i32
  let v128 : Index := Scalar.indexCast v127
  ![0, v128.toNat]
def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S48x10880 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5440x768 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S680x768 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S48x768 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S48x1x10880 : Shape := ⟨3, ![48, 1, 10880]⟩
abbrev S5440x29824 : Shape := ⟨2, ![5440, 29824]⟩
abbrev S680x29824 : Shape := ⟨2, ![680, 29824]⟩
abbrev S_ : Shape := ⟨0, ![]⟩
abbrev S48x10880 : Shape := ⟨2, ![48, 10880]⟩
abbrev S48x5440 : Shape := ⟨2, ![48, 5440]⟩
abbrev S1 : Shape := ⟨1, ![1]⟩
abbrev S48x29824 : Shape := ⟨2, ![48, 29824]⟩
abbrev S680x1x29824 : Shape := ⟨3, ![680, 1, 29824]⟩
abbrev S680x8x29824 : Shape := ⟨3, ![680, 8, 29824]⟩

abbrev nBuf : Space → Nat
  | .hbm => 9
  | .vmem => 5
  | .smem => 1
  | _ => 0

abbrev bufTy : (tb : Table) → Fin (tcTables nBuf tb) → BufTy
  | .hbm, ⟨0, _⟩ => ⟨S48x1x10880, .bf16⟩
  | .hbm, ⟨1, _⟩ => ⟨S5440x29824, .i8⟩
  | .hbm, ⟨2, _⟩ => ⟨S680x29824, .fp8e4m3⟩
  | .hbm, ⟨3, _⟩ => ⟨S_, .f32⟩
  | .hbm, ⟨4, _⟩ => ⟨S48x10880, .bf16⟩
  | .hbm, ⟨5, _⟩ => ⟨S48x5440, .bf16⟩
  | .hbm, ⟨6, _⟩ => ⟨S48x5440, .bf16⟩
  | .hbm, ⟨7, _⟩ => ⟨S1, .f32⟩
  | .hbm, ⟨8, _⟩ => ⟨S48x29824, .bf16⟩
  | .local _ .vmem, ⟨0, _⟩ => ⟨S48x5440, .bf16⟩
  | .local _ .vmem, ⟨1, _⟩ => ⟨S48x5440, .bf16⟩
  | .local _ .vmem, ⟨2, _⟩ => ⟨S5440x29824, .i8⟩
  | .local _ .vmem, ⟨3, _⟩ => ⟨S680x29824, .fp8e4m3⟩
  | .local _ .vmem, ⟨4, _⟩ => ⟨S48x29824, .bf16⟩
  | .local _ .smem, ⟨0, _⟩ => ⟨S1, .f32⟩
  | _, _ => ⟨S48x1x10880, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .smem, ⟨0, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg5_0 : Ref sig .tc := ⟨.vmem, 4, rfl⟩
abbrev cc0_stg4_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S48x5440 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S48x5440 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S5440x29824 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S680x29824 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .smem S1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S48x29824 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.KernelRun.lean ====
/-
  The frame of the kernel at bit-exact floats: every run of it terminates without a fault, leaves its four argument
  arrays as they were and every semaphore counter at zero. What it leaves in its result is not described here: the
  output window is FORGOTTEN, so the proof only says that the body, from any staged blocks, runs to its end and leaves
  the inputs' buffers as they were.
-/
module

public import proofs.«01_k».proof.Proof.Gen.Kernel.Frame
public import proofs.«01_k».proof.Proof.Gen.Kernel.Loops
public import Idealize.ShloMosaic.Lib.Pipeline.Value
public import Idealize.ShloMosaic.Lib.VecWindow

@[expose] public section

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose)

variable {F : FTy → Type} [FloatOps F]

local notation "𝕄" => MT nD τ sig Unit (Elt F) ℕ (UR sig nD τ) ℕ

set_option maxHeartbeats 1000000 in
/-- The body's run: from any staged blocks `g x p s`, whatever the output tile and the accumulator hold, it ends with
    the inputs as they were and the output tile and the accumulator at some contents. -/
theorem body_run (c : Dev nD) (i : grid0.Coords) (arg1 : Memref sig .tc .smem S1 .f32) (harg1 : arg1.IsWhole) (arg2 : Memref sig .tc .vmem S48x10880 .bf16) (harg2 : arg2.IsWhole) (arg3 : Memref sig .tc .vmem S5440x768 .i8) (harg3 : arg3.IsWhole) (arg4 : Memref sig .tc .vmem S680x768 .fp8e4m3) (harg4 : arg4.IsWhole) (arg5 : Memref sig .tc .vmem S48x768 .bf16) (harg5 : arg5.IsWhole) (arg6 : Memref sig .tc .vmem S48x768 .f32) (harg6 : arg6.IsWhole)
    (g : Vec F S1 .f32) (x : Vec F S48x10880 .bf16) (p : Vec F S5440x768 .i8) (s : Vec F S680x768 .fp8e4m3) (E : Set ℕ) (K : PUnit → sProp 𝕄) :
    iprop(owns (c : Thread nD τ) arg1 fullShare g ∗ owns (c : Thread nD τ) arg2 fullShare x ∗ owns (c : Thread nD τ) arg3 fullShare p ∗ owns (c : Thread nD τ) arg4 fullShare s ∗ (∃ d, owns (c : Thread nD τ) arg5 fullShare d) ∗ (∃ d, owns (c : Thread nD τ) arg6 fullShare d)
        ∗ (iprop(owns (c : Thread nD τ) arg1 fullShare g ∗ owns (c : Thread nD τ) arg2 fullShare x ∗ owns (c : Thread nD τ) arg3 fullShare p ∗ owns (c : Thread nD τ) arg4 fullShare s ∗ (∃ d, owns (c : Thread nD τ) arg5 fullShare d) ∗ (∃ d, owns (c : Thread nD τ) arg6 fullShare d)) -∗ K ⟨⟩))
      ⊢ wp frame (wpE (defs₀ (F := F)) Variants.none c none) E (cc0__body i arg1 harg1 arg2 harg2 arg3 harg3 arg4 harg4 arg5 harg5 arg6 harg6) K := by
  simp only [cc0__body_eq_skeleton]; unfold cc0__body_skel
  simp only [k0_part2_eq_skeleton]
  unfold owns
  iintro ⟨⟨%f1, %hf1, H1⟩, ⟨%f2, %hf2, H2⟩, ⟨%f3, %hf3, H3⟩, ⟨%f4, %hf4, H4⟩, ⟨%d5, %f5, -, H5⟩, ⟨%d6, %f6, -, H6⟩, Hk⟩
  obtain rfl := harg1.eq_unread hf1; obtain rfl := harg2.eq_unread hf2; obtain rfl := harg3.eq_unread hf3; obtain rfl := harg4.eq_unread hf4
  sl_exec
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; iexists _; isplitr
    swap; · iexact H5
    ipureintro; rfl
  · iexists _; iexists _; isplitr
    swap; · iexact H6
    ipureintro; rfl

variable (m : (ℓ : Loc nD τ sig) → Buf (Elt F) ℓ) (ρ : Dev nD → PrngReg)

/-- The scratch buffer and the generator register, conjunct by conjunct. -/
theorem PhiA_eq (c : Dev nD) : (Pipeline.ΦA spec0 c : sProp 𝕄)
    = iprop((∃ d, owns (c : Thread nD τ) (Memref.whole cc0_scratch0) fullShare d) ∗ (∃ r, prngReg c r)) := by
  unfold Pipeline.ΦA; rw [scopedRest0_eq]; simp only [owns_whole]; try rfl

/-- The proof data: arrays as the region finds them; after the body the inputs' buffers hold their blocks (past the
    array's end, where a block overhangs, any filler: nothing reads it), the output's forgotten. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (cfg0.win 2).fill (grid0.coords t) default (iblk m c 2 t)
    | ⟨3, _⟩ => (cfg0.win 3).fill (grid0.coords t) default (iblk m c 3 t)
    | ⟨4, _⟩ => default
  Φ _ := Pipeline.ΦA spec0 c
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = (cfg0.win 2).fill (grid0.coords t) default (iblk m c 2 t) := by dsimp only [dats]
theorem after0_3 (c : Dev nD) (t : Fin cfg0.N) : (dats m 0 c).after 3 t = (cfg0.win 3).fill (grid0.coords t) default (iblk m c 3 t) := by dsimp only [dats]

/-- What the body finds in the inputs' buffers: each window's block, past the array's end whatever was there. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = (cfg0.win 2).fill (grid0.coords t) d (iblk m c 2 t) := by
  unfold Dat.before; rw [if_pos (fetch0_2 t)]; rfl
theorem before0_3 (c : Dev nD) (t : Fin cfg0.N) (d) : (dats m 0 c).before 3 t d = (cfg0.win 3).fill (grid0.coords t) d (iblk m c 3 t) := by
  unfold Dat.before; rw [if_pos (fetch0_3 t)]; rfl

/-- Only the output window is forgotten. -/
def fgt : Fin cfg0.W → Bool := ![false, false, false, false, true]

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The body's obligation at every grid point, from `body_run`. -/
theorem body_obligation (c : Dev nD) : BodyObligationLoose (dats (F := F) m 0 c) (defs₀ (F := F)) Variants.none () Set.univ fgt := fun t => by
  rw [bigSep_W0, bigSep_W0, defs₀_row]
  simp only [show fgt 0 = false from rfl, show fgt 1 = false from rfl, show fgt 2 = false from rfl, show fgt 3 = false from rfl, show fgt 4 = true from rfl]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl, PhiA_eq]
  iintro ⟨⟨Hsc, Hr⟩, Ho, ⟨%d0, H0⟩, ⟨%d1, H1⟩, ⟨%d2, H2⟩, ⟨%d3, H3⟩, H4⟩
  rw [before0_0 m c t d0, before0_1 m c t d1, before0_2 m c t d2, before0_3 m c t d3]
  iapply (body_run (F := F) c _ _ _ _ _ _ _ _ _ _ _ _ _ (iblk m c 0 t) (iblk m c 1 t) ((cfg0.win 2).fill (grid0.coords t) d2 (iblk m c 2 t)) ((cfg0.win 3).fill (grid0.coords t) d3 (iblk m c 3 t)) Set.univ _)
  isplitl [H0]; · iexact H0
  isplitl [H1]; · iexact H1
  isplitl [H2]; · iexact H2
  isplitl [H3]; · iexact H3
  isplitl [H4]; · iexact H4
  isplitl [Hsc]; · iexact Hsc
  iintro ⟨H0, H1, H2, H3, H4, H5⟩
  isplitl [H5 Hr]
  · isplitl [H5]; · iexact H5
    iexact Hr
  isplitl [Ho]; · iexact Ho
  isplitl [H0]; · iexact H0
  isplitl [H1]; · iexact H1
  isplitl [H2]
  · iexists d2
    change _ ⊢ owns (c : Thread nD τ) ((cfg0.win 2).stage (cfg0.slots t 2)) fullShare ((cfg0.win 2).fill (grid0.coords t) d2 ((cfg0.win 2).cut (grid0.coords t) ((dats m 0 c).after 2 t)))
    rw [after0_2, Window.cut_fill]; try iexact H2
  isplitl [H3]
  · iexists d3
    change _ ⊢ owns (c : Thread nD τ) ((cfg0.win 3).stage (cfg0.slots t 3)) fullShare ((cfg0.win 3).fill (grid0.coords t) d3 ((cfg0.win 3).cut (grid0.coords t) ((dats m 0 c).after 3 t)))
    rw [after0_3, Window.cut_fill]; try iexact H3
  iexact H4

set_option backward.isDefEq.respectTransparency.types false in
/-- Every run terminates; the arrays of the input windows end as the region found them. -/
theorem run_main : θ_run defs (onTc (τ := τ) (main (F := F))) (s₀ m ρ)
    (fun r => Pipeline.RDat.FramePost cfg0 (fun c => (dats m 0 c).toRForget fgt) (V m) r ∧ r.2.sem = fun _ => 0) :=
  Pipeline.θ_run_frame_forget (Q' := _) cfgs (dats m) (0 : Fin 1) launch0 defs₀ Variants.none fgt m ρ main
    (hbody := fun c => body_obligation m c) (hshare := fun c => (dats m 0 c).share_full fun _ => rfl)
    (howed := fun _ _ => rfl) (V := V m) (hmain := hmain m Variants.none) (hA := A_eq m) (hΦ := fun _ _ => rfl)

/-- THE FRAME: every run terminates, the four argument arrays end as they were and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c =>
    ⟨((h.1 c).2 main_arg0 (Pipeline.mem_restRefs_of main_arg0 (by decide) (by decide))).trans (V_main_arg0 m c),
      (Pipeline.RDat.FramePost.arr_in h.1 c 2 rfl).trans ((A_eq m c 2).trans (V_main_arg1 m c)),
      (Pipeline.RDat.FramePost.arr_in h.1 c 3 rfl).trans ((A_eq m c 3).trans (V_main_arg2 m c)),
      ((h.1 c).2 main_arg3 (Pipeline.mem_restRefs_of main_arg3 (by decide) (by decide))).trans (V_main_arg3 m c)⟩, h.2⟩)
    (run_main m ρ)

end Cert.Kernel.Run

end
-- ==== Proof.IdealBody.lean ====
/-
  What ONE grid step of the kernel computes (the program read at any float interpretation): the step's run, from
  whatever its five staging buffers and its accumulator hold, ends with the output tile at `tile x p s g`,
  where the accumulator is zeroed, takes 21 chunks of 512 rows each and then the last 128 rows.
-/
module

public import proofs.«01_k».proof.Proof.Gen.KernelIdeal.Frame
public import proofs.«01_k».proof.Proof.Gen.KernelIdeal.Loops
public import Idealize.ShloMosaic.Lib.Pipeline.Value
public import Idealize.ShloMosaic.Lib.VecWindow

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

theorem hz : (![0, 0] : Fin 2 → Nat) = fun _ => 0 := funext fun a => by fin_cases a <;> rfl

/-- The loop runs 21 times. -/
theorem trips_eq : k0_t1_loop.trips = 21 := by decide +kernel

/-- Trip `k`'s packed weight rows `256k ‥ 256k+255`. -/
abbrev chunkP (p : Vec F S5440x768 .i8) (k : Fin k0_t1_loop.trips) : Vec F S256x768 .i8 :=
  View.ld p (Rect.unit (s := S5440x768) (k0_off1 k) S256x768.size (k0_off1_inb k))
/-- Trip `k`'s scale rows `32k ‥ 32k+31`. -/
abbrev chunkS (s : Vec F S680x768 .fp8e4m3) (k : Fin k0_t1_loop.trips) : Vec F S32x768 .fp8e4m3 :=
  View.ld s (Rect.unit (s := S680x768) (k0_off2 k) S32x768.size (k0_off2_inb k))
/-- Trip `k`'s activation columns `512k ‥ 512k+511`. -/
abbrev chunkX (x : Vec F S48x10880 .bf16) (k : Fin k0_t1_loop.trips) : Vec F S48x512 .bf16 :=
  View.ld x (Rect.unit (s := S48x10880) (k0_off3 k) S48x512.size (k0_off3_inb k))

/-- One trip: the accumulator `a` plus the chunk's product. -/
def trip (x : Vec F S48x10880 .bf16) (p : Vec F S5440x768 .i8) (s : Vec F S680x768 .fp8e4m3) (k : Fin k0_t1_loop.trips)
    (a : Vec F S48x768 .f32) : Vec F S48x768 .f32 :=
  k0_pay12 (k0_pay4 (chunkP p k)) (k0_pay5 (chunkP p k)) (k0_pay6 (chunkP p k)) (k0_pay7 (chunkP p k)) (k0_pay8 (chunkP p k))
    k0_pay9 k0_pay10 (chunkS s k) (chunkX x k) a

/-- The accumulator after the first `n` trips. -/
def accAt (x : Vec F S48x10880 .bf16) (p : Vec F S5440x768 .i8) (s : Vec F S680x768 .fp8e4m3) : ℕ → Vec F S48x768 .f32
  | 0 => k0_pay11
  | n + 1 => if h : n < k0_t1_loop.trips then trip x p s ⟨n, h⟩ (accAt x p s n) else accAt x p s n

/-- The last 64 packed rows, the last 8 scale rows, the last 128 activation columns. -/
abbrev tailP (p : Vec F S5440x768 .i8) : Vec F S64x768 .i8 :=
  View.ld p (Rect.unit (s := S5440x768) ![5376, 0] S64x768.size inb_S5440x768_S64x768_5376_0)
abbrev tailS (s : Vec F S680x768 .fp8e4m3) : Vec F S8x768 .fp8e4m3 :=
  View.ld s (Rect.unit (s := S680x768) ![672, 0] S8x768.size inb_S680x768_S8x768_672_0)
abbrev tailX (x : Vec F S48x10880 .bf16) : Vec F S48x128 .bf16 :=
  View.ld x (Rect.unit (s := S48x10880) ![0, 10752] S48x128.size inb_S48x10880_S48x128_0_10752)

/-- The accumulator with the last 128 rows added. -/
def total (x : Vec F S48x10880 .bf16) (p : Vec F S5440x768 .i8) (s : Vec F S680x768 .fp8e4m3) : Vec F S48x768 .f32 :=
  k0_pay1 (k0_pay14 (tailP p)) (k0_pay15 (tailP p)) (k0_pay16 (tailP p)) (k0_pay17 (tailP p)) (k0_pay18 (tailP p))
    (Scalar.ofBits .bf16 0x4040#16) (Scalar.ofBits .bf16 0x4000#16) (tailS s) (tailX x) (accAt x p s k0_t1_loop.trips)

/-- The only index of a one-element array. -/
def zero1 : S1.Idx := fun a => ⟨0, by fin_cases a; exact Nat.zero_lt_one⟩

theorem eq_zero1 (z : S1.Idx) : z = zero1 := funext fun a => Fin.ext (by
  have h : (z a).val < 1 := by have := (z a).isLt; fin_cases a; exact this
  show (z a).val = 0
  omega)

/-- The output tile: the total times the global scale. -/
def tile (g : Vec F S1 .f32) (x : Vec F S48x10880 .bf16) (p : Vec F S5440x768 .i8) (s : Vec F S680x768 .fp8e4m3) : Vec F S48x768 .bf16 :=
  k0_pay2 (total x p s) (g zero1)

/-- One trip of the loop, run on memory: reading the accumulator's buffer after the trip's stores gives `trip` of what
    it held before. -/
theorem read_trip (c : Dev nD) (i : grid0.Coords) (arg1 : Memref sig .tc .smem S1 .f32) (harg1 : arg1.IsWhole) (arg2 : Memref sig .tc .vmem S48x10880 .bf16) (harg2 : arg2.IsWhole) (arg3 : Memref sig .tc .vmem S5440x768 .i8) (harg3 : arg3.IsWhole) (arg4 : Memref sig .tc .vmem S680x768 .fp8e4m3) (harg4 : arg4.IsWhole) (arg5 : Memref sig .tc .vmem S48x768 .bf16) (harg5 : arg5.IsWhole) (arg6 : Memref sig .tc .vmem S48x768 .f32) (harg6 : arg6.IsWhole)
    (x : Vec F S48x10880 .bf16) (p : Vec F S5440x768 .i8) (s : Vec F S680x768 .fp8e4m3) (k : Fin k0_t1_loop.trips) (f6 : BufTy.Contents (Elt F) arg6.view.ty) :
    arg6.view.read (Elt F) (arg6.view.writes (Elt F) f6 (tripL_k0_t1 (F := F) Variants.none c none i arg1 harg1 arg2 harg2 arg3 harg3 arg4 harg4 arg5 harg5 arg6 harg6 (harg2.unread x) (harg3.unread p) (harg4.unread s) k f6))
      = trip x p s k (arg6.view.read (Elt F) f6) := by
  unfold tripL_k0_t1 trip_k0_t1
  dsimp only
  sl_unfold_words
  rw [View.read_writes_full]
  unfold trip
  simp only [View.readAt_eq_ld, harg2.read_unread, harg3.read_unread, harg4.read_unread, View.ld_unit_zero (S := S48x768) hz]
  rfl

/-- The loop, run on memory: after `n` trips from a zeroed accumulator the buffer reads `accAt n`. -/
theorem read_pb (c : Dev nD) (i : grid0.Coords) (arg1 : Memref sig .tc .smem S1 .f32) (harg1 : arg1.IsWhole) (arg2 : Memref sig .tc .vmem S48x10880 .bf16) (harg2 : arg2.IsWhole) (arg3 : Memref sig .tc .vmem S5440x768 .i8) (harg3 : arg3.IsWhole) (arg4 : Memref sig .tc .vmem S680x768 .fp8e4m3) (harg4 : arg4.IsWhole) (arg5 : Memref sig .tc .vmem S48x768 .bf16) (harg5 : arg5.IsWhole) (arg6 : Memref sig .tc .vmem S48x768 .f32) (harg6 : arg6.IsWhole)
    (x : Vec F S48x10880 .bf16) (p : Vec F S5440x768 .i8) (s : Vec F S680x768 .fp8e4m3) (G : BufTy.Contents (Elt F) arg6.view.ty)
    (hG : arg6.view.read (Elt F) G = k0_pay11) : ∀ n : ℕ, n ≤ k0_t1_loop.trips →
    arg6.view.read (Elt F) (arg6.view.writes (Elt F) G (pb_k0_t1 (F := F) Variants.none c none i arg1 harg1 arg2 harg2 arg3 harg3 arg4 harg4 arg5 harg5 arg6 harg6 (harg2.unread x) (harg3.unread p) (harg4.unread s) G n))
      = accAt x p s n
  | 0, _ => hG
  | n + 1, h => by
    rw [pb_k0_t1_succ (F := F) Variants.none c none i arg1 harg1 arg2 harg2 arg3 harg3 arg4 harg4 arg5 harg5 arg6 harg6 (harg2.unread x) (harg3.unread p) (harg4.unread s) G ⟨n, h⟩,
      View.writes_append, read_trip, read_pb c i arg1 harg1 arg2 harg2 arg3 harg3 arg4 harg4 arg5 harg5 arg6 harg6 x p s G hG n (Nat.le_of_lt h)]
    simp only [accAt, dif_pos h]
    rw [dif_pos (show n < k0_t1_loop.trips from h)]

set_option maxHeartbeats 1000000 in
/-- The body's run: whatever the output tile and the accumulator hold, from the staged blocks `g x p s` it ends with the
    inputs as they were and the output tile at `tile g x p s`. -/
theorem body_run (c : Dev nD) (i : grid0.Coords) (arg1 : Memref sig .tc .smem S1 .f32) (harg1 : arg1.IsWhole) (arg2 : Memref sig .tc .vmem S48x10880 .bf16) (harg2 : arg2.IsWhole) (arg3 : Memref sig .tc .vmem S5440x768 .i8) (harg3 : arg3.IsWhole) (arg4 : Memref sig .tc .vmem S680x768 .fp8e4m3) (harg4 : arg4.IsWhole) (arg5 : Memref sig .tc .vmem S48x768 .bf16) (harg5 : arg5.IsWhole) (arg6 : Memref sig .tc .vmem S48x768 .f32) (harg6 : arg6.IsWhole)
    (g : Vec F S1 .f32) (x : Vec F S48x10880 .bf16) (p : Vec F S5440x768 .i8) (s : Vec F S680x768 .fp8e4m3) (E : Set ℕ) (K : PUnit → sProp 𝕄) :
    iprop(owns (c : Thread nD τ) arg1 fullShare g ∗ owns (c : Thread nD τ) arg2 fullShare x ∗ owns (c : Thread nD τ) arg3 fullShare p ∗ owns (c : Thread nD τ) arg4 fullShare s ∗ (∃ d, owns (c : Thread nD τ) arg5 fullShare d) ∗ (∃ d, owns (c : Thread nD τ) arg6 fullShare d)
        ∗ (iprop(owns (c : Thread nD τ) arg1 fullShare g ∗ owns (c : Thread nD τ) arg2 fullShare x ∗ owns (c : Thread nD τ) arg3 fullShare p ∗ owns (c : Thread nD τ) arg4 fullShare s ∗ owns (c : Thread nD τ) arg5 fullShare (tile g x p s) ∗ (∃ d, owns (c : Thread nD τ) arg6 fullShare d)) -∗ K ⟨⟩))
      ⊢ wp frame (wpE (defs₀ (F := F)) Variants.none c none) E (cc0__body i arg1 harg1 arg2 harg2 arg3 harg3 arg4 harg4 arg5 harg5 arg6 harg6) K := by
  simp only [cc0__body_eq_skeleton]; unfold cc0__body_skel
  simp only [k0_part2_eq_skeleton]
  unfold owns
  iintro ⟨⟨%f1, %hf1, H1⟩, ⟨%f2, %hf2, H2⟩, ⟨%f3, %hf3, H3⟩, ⟨%f4, %hf4, H4⟩, ⟨%d5, %f5, -, H5⟩, ⟨%d6, %f6, -, H6⟩, Hk⟩
  obtain rfl := harg1.eq_unread hf1; obtain rfl := harg2.eq_unread hf2; obtain rfl := harg3.eq_unread hf3; obtain rfl := harg4.eq_unread hf4
  sl_exec
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr
    swap; · iexact H5
    ipureintro
    rw [View.read_writes_full]
    unfold tile total
    sl_unfold_words
    rw [View.readCov_full]
    unfold View.readCov
    rw [View.readAt_full, View.writes_append]
    have hloop := read_pb c i arg1 harg1 arg2 harg2 arg3 harg3 arg4 harg4 arg5 harg5 arg6 harg6 x p s
      (arg6.view.writes (Elt F) arg6.view.junk [⟨Rect.unit ![0, 0] S48x768.size inb_S48x768_S48x768_0_0, k0_pay11⟩])
      (View.read_writes_full _ _ _ _ _) k0_t1_loop.trips le_rfl
    rw [show Scf.trips k0_t1_loop.lb k0_t1_loop.ub k0_t1_loop.st = k0_t1_loop.trips from rfl, hloop]
    simp only [View.readAt_eq_ld, harg2.read_unread, harg3.read_unread, harg4.read_unread, harg1.read_unread]
    congr 1
    exact congrArg g (eq_zero1 _)
  · iexists _; iexists _; isplitr
    swap; · iexact H6
    ipureintro; rfl

end Cert.KernelIdeal.Body

end
-- ==== Proof.Formula.lean ====
/-
  The value both programs compute, written plainly over the extended reals: what one four-bit code stands for, the
  dequantized weight at a row, and the matrix product times the global scale. Nothing here names either program.
-/
module

public import Idealize.ShloMosaic.Lib.Pointwise

@[expose] public section

set_option maxRecDepth 16384

noncomputable section

namespace Cert.Formula

open Idealize.ShloMosaic

/-- The four-bit code of a packed byte: the low four bits (`h = 0`) or the high four bits (otherwise). -/
def code (b : BitVec 8) (h : ℕ) : BitVec 32 :=
  if h = 0 then IntOp.andi (b.setWidth 32) 15#32 else IntOp.shrsi ArithUnit.vector (b.setWidth 32) 4#32

/-- A bit of the code under a mask, as the truth value the kernel selects by. -/
def bit (c mask : BitVec 32) : BitVec 1 := IntOp.cmpi CmpIPredicate.ne (IntOp.andi c mask) 0#32

/-- The magnitude a code's low three bits stand for: 0, 1/2, 1, 3/2, 2, 3, 4, 6. -/
def mag (c : BitVec 32) : EReal :=
  Scalar.select (bit c 4#32)
    (Scalar.select (bit c 2#32)
      (Scalar.select (bit c 1#32) (Ideal.ofBits FTy.bf16 16576#16) (Ideal.ofBits FTy.bf16 16512#16))
      (Scalar.select (bit c 1#32) (Ideal.ofBits FTy.bf16 16448#16) (Ideal.ofBits FTy.bf16 16384#16)))
    (Scalar.select (bit c 2#32)
      (Scalar.select (bit c 1#32) (Ideal.ofBits FTy.bf16 16320#16) 1)
      (Scalar.select (bit c 1#32) (Ideal.ofBits FTy.bf16 16128#16) 0))

/-- The value of a code: its magnitude, negated when the fourth bit is set. -/
def dec (c : BitVec 32) : EReal := Scalar.select (bit c 8#32) (mag c * Ideal.ofBits FTy.bf16 49024#16) (mag c)

/-- The eight-bit float that carries a code's sign and its three low bits one place up. -/
def enc (c : BitVec 32) : BitVec 8 :=
  (IntOp.ori (IntOp.shli ArithUnit.vector (IntOp.andi c 7#32) 2#32) (IntOp.shli ArithUnit.vector (IntOp.andi c 8#32) 4#32)).setWidth 8

set_option maxHeartbeats 2000000 in
/-- Sixty-four times the eight-bit float of a code is the code's value. -/
theorem enc_value (n : Fin 16) :
    Ideal.ofBits .fp8e4m3 (enc (BitVec.ofNat 32 n.val)) * Ideal.ofBits .bf16 0x4280#16 = dec (BitVec.ofNat 32 n.val) := by
  have h64 : Ideal.ofBits .bf16 0x4280#16 = ((64 : ℝ) : EReal) := by
    simp [Ideal.ofBits, Ideal.ieee, -EReal.coe_mul]; norm_num
  have h6 : Ideal.ofBits .bf16 16576#16 = ((6 : ℝ) : EReal) := by
    simp [Ideal.ofBits, Ideal.ieee, -EReal.coe_mul]; norm_num
  have h4 : Ideal.ofBits .bf16 16512#16 = ((4 : ℝ) : EReal) := by
    simp [Ideal.ofBits, Ideal.ieee, -EReal.coe_mul]; norm_num
  have h3 : Ideal.ofBits .bf16 16448#16 = ((3 : ℝ) : EReal) := by
    simp [Ideal.ofBits, Ideal.ieee, -EReal.coe_mul]; norm_num
  have h2 : Ideal.ofBits .bf16 16384#16 = ((2 : ℝ) : EReal) := by
    simp [Ideal.ofBits, Ideal.ieee, -EReal.coe_mul]; norm_num
  have h15 : Ideal.ofBits .bf16 16320#16 = ((3 / 2 : ℝ) : EReal) := by
    simp [Ideal.ofBits, Ideal.ieee, -EReal.coe_mul]; norm_num
  have h05 : Ideal.ofBits .bf16 16128#16 = ((1 / 2 : ℝ) : EReal) := by
    simp [Ideal.ofBits, Ideal.ieee, -EReal.coe_mul]; norm_num
  have hm1 : Ideal.ofBits FTy.bf16 49024#16 = ((-1 : ℝ) : EReal) := by
    simp [Ideal.ofBits, Ideal.ieee, -EReal.coe_mul]; norm_num
  have key : ∀ n : Fin 16, (enc (BitVec.ofNat 32 n.val), bit (BitVec.ofNat 32 n.val) 8#32, bit (BitVec.ofNat 32 n.val) 4#32,
      bit (BitVec.ofNat 32 n.val) 2#32, bit (BitVec.ofNat 32 n.val) 1#32)
      = (BitVec.ofNat 8 (n.val % 8 * 4 + n.val / 8 * 128), BitVec.ofNat 1 (n.val / 8), BitVec.ofNat 1 (n.val / 4),
        BitVec.ofNat 1 (n.val / 2), BitVec.ofNat 1 n.val) := by decide +kernel
  have hk := key n
  simp only [Prod.mk.injEq] at hk
  obtain ⟨h1, hb8, hb4, hb2, hb1⟩ := hk
  rw [h1, h64]
  unfold dec mag
  rw [hb8, hb4, hb2, hb1, h6, h4, h3, h2, h15, h05, hm1]
  clear h1 hb8 hb4 hb2 hb1 key
  fin_cases n <;> simp [Scalar.select, Ideal.ofBits, Ideal.e4m3fn, -EReal.coe_mul] <;> norm_cast <;> norm_num

/-- Every code is one of sixteen. -/
theorem code_eq (b : BitVec 8) (h : ℕ) : ∃ n : Fin 16, code b h = BitVec.ofNat 32 n.val := by
  have k0 : ∀ b : BitVec 8, ∃ n : Fin 16, code b 0 = BitVec.ofNat 32 n.val := by decide +kernel
  have k1 : ∀ b : BitVec 8, ∃ n : Fin 16, code b 1 = BitVec.ofNat 32 n.val := by decide +kernel
  rcases Nat.eq_zero_or_pos h with rfl | hp
  · exact k0 b
  · obtain ⟨n, hn⟩ := k1 b
    refine ⟨n, ?_⟩
    rw [← hn]; unfold code; rw [if_neg (by omega), if_neg (by omega)]

/-- Sixty-four times the eight-bit float of a packed byte's code is the code's value. -/
theorem enc_code (b : BitVec 8) (h : ℕ) : Ideal.ofBits .fp8e4m3 (enc (code b h)) * Ideal.ofBits .bf16 0x4280#16 = dec (code b h) := by
  obtain ⟨n, hn⟩ := code_eq b h
  rw [hn]; exact enc_value n

/-- The bits the reference takes for the low code are the eight-bit float of the low code. -/
theorem low_bits (b : BitVec 8) :
    BitVec.setWidth 8
        (IntOp.ori (IntOp.shli ArithUnit.vector (IntOp.andi (BitVec.setWidth 32 b) 7#32) 2#32)
          (IntOp.shli ArithUnit.vector (IntOp.andi (BitVec.setWidth 32 b) 8#32) 4#32)) = enc (code b 0) := by
  revert b; decide +kernel

/-- The bits the reference takes for the high code are the eight-bit float of the high code. -/
theorem high_bits (b : BitVec 8) :
    BitVec.setWidth 8
        (IntOp.ori (IntOp.andi (IntOp.shrsi ArithUnit.vector (BitVec.setWidth 32 b) 2#32) 28#32)
          (IntOp.andi (BitVec.setWidth 32 b) 128#32)) = enc (code b 1) := by
  revert b; decide +kernel

/-- A finite sequence continued by `d`. -/
def ext {n : ℕ} {α : Type} (d : α) (f : Fin n → α) : ℕ → α := fun k => if h : k < n then f ⟨k, h⟩ else d

theorem ext_lt {n : ℕ} {α : Type} (d : α) (f : Fin n → α) {k : ℕ} (h : k < n) : ext d f k = f ⟨k, h⟩ := dif_pos h

/-- One term of the product: the activation at `k` times the weight at row `k`, which is the value of the code at row
    `k` (packed two rows to a byte) times the scale of the sixteen rows it lies in. -/
def term (x : ℕ → EReal) (p : ℕ → BitVec 8) (s : ℕ → EReal) (k : ℕ) : EReal :=
  x k * (dec (code (p (k / 2)) (k % 2)) * s (k / 16))

/-- The sum of the first `n` terms. -/
def part (x : ℕ → EReal) (p : ℕ → BitVec 8) (s : ℕ → EReal) (n : ℕ) : EReal :=
  ∑ k ∈ Finset.range n, term x p s k

/-- The sum of `a + b` terms is that of the first `a`, then that of the `b` after them. -/
theorem part_add (x : ℕ → EReal) (p : ℕ → BitVec 8) (s : ℕ → EReal) (a b : ℕ) :
    part x p s (a + b) = part x p s a + ∑ k : Fin b, term x p s (a + k.val) := by
  unfold part
  rw [Finset.sum_range_add, ← Fin.sum_univ_eq_sum_range (fun k => term x p s (a + k))]

/-- The sum of `2n` terms is the sum of its even terms and that of its odd terms. -/
theorem part_two_mul (x : ℕ → EReal) (p : ℕ → BitVec 8) (s : ℕ → EReal) (n : ℕ) :
    part x p s (2 * n) = (∑ k : Fin n, term x p s (2 * k.val)) + ∑ k : Fin n, term x p s (2 * k.val + 1) := by
  unfold part
  rw [← Fin.sum_univ_eq_sum_range (fun k => term x p s k), Fin.sum_univ_eq_sum_range (fun k => term x p s k),
    Fin.sum_univ_eq_sum_range (fun k => term x p s (2 * k)), Fin.sum_univ_eq_sum_range (fun k => term x p s (2 * k + 1))]
  induction n with
  | zero => simp
  | succ n ih =>
    rw [show 2 * (n + 1) = 2 * n + 1 + 1 by ring, Finset.sum_range_succ, Finset.sum_range_succ, ih,
      Finset.sum_range_succ, Finset.sum_range_succ]
    abel

/-- The result at row `r` and column `l`: the product of the activations' row and the dequantized weight's column, times
    the global scale. -/
def out {N : ℕ} (g : EReal) (x : (⟨2, ![48, 10880]⟩ : Shape).Idx → EReal) (p : (⟨2, ![5440, N]⟩ : Shape).Idx → BitVec 8)
    (s : (⟨2, ![680, N]⟩ : Shape).Idx → EReal) (r : Fin 48) (l : Fin N) : EReal :=
  part (ext 0 fun k => x (ix2 r k)) (ext 0 fun k => p (ix2 k l)) (ext 0 fun k => s (ix2 k l)) 10880 * g

/-- The activations with their middle axis of extent one dropped. -/
def flat (x : (⟨3, ![48, 1, 10880]⟩ : Shape).Idx → EReal) : (⟨2, ![48, 10880]⟩ : Shape).Idx → EReal :=
  fun i => x (ix3 (i 0) 0 (i 1))

/-- THE RESULT of both programs, from their four arguments. -/
def result (x : (⟨3, ![48, 1, 10880]⟩ : Shape).Idx → EReal) (p : (⟨2, ![5440, 29824]⟩ : Shape).Idx → BitVec 8)
    (s : (⟨2, ![680, 29824]⟩ : Shape).Idx → EReal) (g : (⟨0, ![]⟩ : Shape).Idx → EReal) : (⟨2, ![48, 29824]⟩ : Shape).Idx → EReal :=
  fun i => out (g fun a => a.elim0) (flat x) p s (i 0) (i 1)

end Cert.Formula
end
-- ==== Proof.IdealValue.lean ====
/-
  The kernel's output tile at the extended reals, as the plain formula: the accumulator after `n` trips holds the sum of
  the first `512 n` terms, the last 128 rows complete it to 10880 terms, and the tile is that times the global scale. A
  column of the tile depends on the same column of the packed weights and of the scales only.
-/
module

public import proofs.«01_k».proof.Proof.IdealBody
public import proofs.«01_k».proof.Proof.Formula

@[expose] public section

set_option maxRecDepth 16384

noncomputable section

namespace Cert.KernelIdeal.Body

open Cert.KernelIdeal Cert.KernelIdeal.Gen
open Idealize.ShloMosaic
open Cert.Formula

/-- A chunk's codes: row `k` of it is the low or the high code of its packed row `k / 2`. -/
theorem codes_at (p : Vec Ideal S256x768 .i8) (k : Fin 512) (l : Fin 768) :
    k0_pay3 (F := Ideal) p (ix2 k l) = code (p (ix2 ⟨k.val / 2, by omega⟩ l)) (k.val % 2) := by
  pointwise [k0_pay3]
  unfold code
  by_cases h : k.val % 2 = 0
  · rw [dif_pos (by omega), if_pos h]
  · rw [dif_neg (by omega), if_neg h]

/-- The last rows' codes, the same. -/
theorem codes_at_tail (p : Vec Ideal S64x768 .i8) (k : Fin 128) (l : Fin 768) :
    k0_pay13 (F := Ideal) p (ix2 k l) = code (p (ix2 ⟨k.val / 2, by omega⟩ l)) (k.val % 2) := by
  pointwise [k0_pay13]
  unfold code
  by_cases h : k.val % 2 = 0
  · rw [dif_pos (by omega), if_pos h]
  · rw [dif_neg (by omega), if_neg h]

/-- A chunk's step: the accumulator plus the sum of the chunk's 512 terms. -/
theorem chunk_at (p : Vec Ideal S256x768 .i8) (s : Vec Ideal S32x768 .fp8e4m3) (x : Vec Ideal S48x512 .bf16) (a : Vec Ideal S48x768 .f32) (r : Fin 48) (l : Fin 768) :
    k0_pay12 (F := Ideal) (k0_pay4 p) (k0_pay5 p) (k0_pay6 p) (k0_pay7 p) (k0_pay8 p) k0_pay9 k0_pay10 s x a (ix2 r l)
      = a (ix2 r l) + ∑ k : Fin 512, x (ix2 r k) * (dec (code (p (ix2 ⟨k.val / 2, by omega⟩ l)) (k.val % 2)) * s (ix2 ⟨k.val / 16, by omega⟩ l)) := by
  pointwise [k0_pay12, k0_pay4, k0_pay5, k0_pay6, k0_pay7, k0_pay8, k0_pay9, k0_pay10]
  simp only [codes_at]
  rfl

/-- The last rows' step: the accumulator plus the sum of their 128 terms. -/
theorem tail_at (p : Vec Ideal S64x768 .i8) (s : Vec Ideal S8x768 .fp8e4m3) (x : Vec Ideal S48x128 .bf16) (a : Vec Ideal S48x768 .f32) (r : Fin 48) (l : Fin 768) :
    k0_pay1 (F := Ideal) (k0_pay14 p) (k0_pay15 p) (k0_pay16 p) (k0_pay17 p) (k0_pay18 p)
        (Scalar.ofBits .bf16 0x4040#16) (Scalar.ofBits .bf16 0x4000#16) s x a (ix2 r l)
      = a (ix2 r l) + ∑ k : Fin 128, x (ix2 r k) * (dec (code (p (ix2 ⟨k.val / 2, by omega⟩ l)) (k.val % 2)) * s (ix2 ⟨k.val / 16, by omega⟩ l)) := by
  pointwise [k0_pay1, k0_pay14, k0_pay15, k0_pay16, k0_pay17, k0_pay18]
  simp only [codes_at_tail]
  rfl

section
variable (x : Vec Ideal S48x10880 .bf16) (p : Vec Ideal S5440x768 .i8) (s : Vec Ideal S680x768 .fp8e4m3)

/-- Row `r` of the activations, column `l` of the packed weights and of the scales. -/
abbrev xrow (r : Fin 48) : ℕ → EReal := ext 0 fun k : Fin 10880 => x (ix2 r k)
abbrev pcol (l : Fin 768) : ℕ → BitVec 8 := ext 0 fun k : Fin 5440 => p (ix2 k l)
abbrev scol (l : Fin 768) : ℕ → EReal := ext 0 fun k : Fin 680 => s (ix2 k l)

/-- The chunks of trip `n`, entry by entry. -/
theorem chunkX_at (k : Fin k0_t1_loop.trips) (r : Fin 48) (j : Fin 512) (h : 512 * k.val + j.val < 10880) :
    chunkX x k (ix2 r j) = x (ix2 r ⟨512 * k.val + j.val, h⟩) :=
  congrArg x (funext fun a => Fin.ext (by
    have e := congrFun (k0_off3_eq k) a
    fin_cases a
    · exact (congrArg (· + _ * _) e).trans (by show 0 + 1 * r.val = r.val; omega)
    · exact (congrArg (· + _ * _) e).trans (by show 512 * k.val + 1 * j.val = 512 * k.val + j.val; omega)))

theorem chunkP_at (k : Fin k0_t1_loop.trips) (j : Fin 256) (l : Fin 768) (h : 256 * k.val + j.val < 5440) :
    chunkP p k (ix2 j l) = p (ix2 ⟨256 * k.val + j.val, h⟩ l) :=
  congrArg p (funext fun a => Fin.ext (by
    have e := congrFun (k0_off1_eq k) a
    fin_cases a
    · exact (congrArg (· + _ * _) e).trans (by show 256 * k.val + 1 * j.val = 256 * k.val + j.val; omega)
    · exact (congrArg (· + _ * _) e).trans (by show 0 + 1 * l.val = l.val; omega)))

theorem chunkS_at (k : Fin k0_t1_loop.trips) (j : Fin 32) (l : Fin 768) (h : 32 * k.val + j.val < 680) :
    chunkS s k (ix2 j l) = s (ix2 ⟨32 * k.val + j.val, h⟩ l) :=
  congrArg s (funext fun a => Fin.ext (by
    have e := congrFun (k0_off2_eq k) a
    fin_cases a
    · exact (congrArg (· + _ * _) e).trans (by show 32 * k.val + 1 * j.val = 32 * k.val + j.val; omega)
    · exact (congrArg (· + _ * _) e).trans (by show 0 + 1 * l.val = l.val; omega)))

/-- One trip adds the next 512 terms. -/
theorem trip_at (n : ℕ) (h : n < k0_t1_loop.trips) (a : Vec Ideal S48x768 .f32) (r : Fin 48) (l : Fin 768) :
    trip x p s ⟨n, h⟩ a (ix2 r l)
      = a (ix2 r l) + ∑ k : Fin 512, term (xrow x r) (pcol p l) (scol s l) (512 * n + k.val) := by
  have hn : n < 21 := trips_eq ▸ h
  unfold trip
  rw [chunk_at]
  congr 1
  refine Finset.sum_congr rfl fun k _ => ?_
  have hk := k.isLt
  unfold term xrow pcol scol
  rw [ext_lt 0 _ (show 512 * n + k.val < 10880 by omega), ext_lt 0 _ (show (512 * n + k.val) / 2 < 5440 by omega),
    ext_lt 0 _ (show (512 * n + k.val) / 16 < 680 by omega), show (512 * n + k.val) % 2 = k.val % 2 by omega]
  rw [chunkX_at x ⟨n, h⟩ r k (show 512 * n + k.val < 10880 by omega), chunkP_at p ⟨n, h⟩ _ l (show 256 * n + k.val / 2 < 5440 by omega),
    chunkS_at s ⟨n, h⟩ _ l (show 32 * n + k.val / 16 < 680 by omega)]
  simp only [show 256 * n + k.val / 2 = (512 * n + k.val) / 2 by omega, show 32 * n + k.val / 16 = (512 * n + k.val) / 16 by omega]

/-- After `n` trips the accumulator holds the sum of the first `512 n` terms. -/
theorem accAt_at (r : Fin 48) (l : Fin 768) : ∀ n : ℕ, n ≤ k0_t1_loop.trips →
    accAt x p s n (ix2 r l) = part (xrow x r) (pcol p l) (scol s l) (512 * n)
  | 0, _ => by
    show k0_pay11 (F := Ideal) (ix2 r l) = _
    pointwise [k0_pay11]
    simp [part]
  | n + 1, h => by
    show (if h : n < k0_t1_loop.trips then trip x p s ⟨n, h⟩ (accAt x p s n) else accAt x p s n) (ix2 r l) = _
    rw [dif_pos (show n < k0_t1_loop.trips from h), trip_at x p s n h, accAt_at r l n (Nat.le_of_lt h), show 512 * (n + 1) = 512 * n + 512 by ring, part_add]

/-- The total is the sum of all 10880 terms. -/
theorem total_at (r : Fin 48) (l : Fin 768) :
    total x p s (ix2 r l) = part (xrow x r) (pcol p l) (scol s l) 10880 := by
  unfold total
  rw [tail_at, accAt_at x p s r l _ le_rfl, trips_eq]
  refine Eq.trans ?_ (part_add (xrow x r) (pcol p l) (scol s l) 10752 128).symm
  congr 1
  refine Finset.sum_congr rfl fun k _ => ?_
  have hk := k.isLt
  unfold term xrow pcol scol
  rw [ext_lt 0 _ (show 10752 + k.val < 10880 by omega), ext_lt 0 _ (show (10752 + k.val) / 2 < 5440 by omega),
    ext_lt 0 _ (show (10752 + k.val) / 16 < 680 by omega), show (10752 + k.val) % 2 = k.val % 2 by omega]
  pointwise [tailX, tailP, tailS]
  simp only [show (10752 + k.val) / 2 = 5376 + k.val / 2 by omega, show (10752 + k.val) / 16 = 672 + k.val / 16 by omega]

/-- The tile at row `r` and column `l` is the formula. -/
theorem tile_at (g : Vec Ideal S1 .f32) (r : Fin 48) (l : Fin 768) :
    tile g x p s (ix2 r l) = out (g zero1) x p s r l := by
  unfold tile
  pointwise [k0_pay2]
  rw [total_at]
  rfl

end

/-- The formula at a column depends on that column of the packed weights and of the scales only. -/
theorem out_congr {N N' : ℕ} (g : EReal) (x : (⟨2, ![48, 10880]⟩ : Shape).Idx → EReal)
    (p : (⟨2, ![5440, N]⟩ : Shape).Idx → BitVec 8) (s : (⟨2, ![680, N]⟩ : Shape).Idx → EReal)
    (p' : (⟨2, ![5440, N']⟩ : Shape).Idx → BitVec 8) (s' : (⟨2, ![680, N']⟩ : Shape).Idx → EReal)
    (r : Fin 48) (l : Fin N) (l' : Fin N') (hp : ∀ k, p (ix2 k l) = p' (ix2 k l')) (hs : ∀ k, s (ix2 k l) = s' (ix2 k l')) :
    out g x p s r l = out g x p' s' r l' := by
  unfold out
  rw [funext hp, funext hs]

end Cert.KernelIdeal.Body
end
-- ==== Proof.IdealRun.lean ====
/-
  The run of the kernel at the extended reals: every run terminates, its four argument arrays end as they were and its
  result array ends at the plain formula. The last column tile overhangs the arrays: what the kernel computes in the
  columns past the end is not written back, and the columns before it do not depend on it.
-/
module

public import proofs.«01_k».proof.Proof.IdealValue
public import Idealize.ShloMosaic.Lib.Claim

@[expose] public section

set_option maxRecDepth 16384

noncomputable section

namespace Cert.KernelIdeal.Value

open Cert.KernelIdeal Cert.KernelIdeal.Gen Cert.KernelIdeal.Body
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose)
open Cert.Formula

local notation "𝕄" => MT nD τ sig Unit (Elt Ideal) ℕ (UR sig nD τ) ℕ

variable (m : (ℓ : Loc nD τ sig) → Buf (Elt Ideal) ℓ) (ρ : Dev nD → PrngReg)

/-- The formula at the launch contents of the arguments. -/
abbrev res (c : Dev nD) : Buf (Elt Ideal) ((c : Thread nD τ).loc main_v2) :=
  result (m ((c : Thread nD τ).loc main_arg0)) (m ((c : Thread nD τ).loc main_arg1)) (m ((c : Thread nD τ).loc main_arg2)) (m ((c : Thread nD τ).loc main_arg3))

/-- Point `t`'s blocks start at column `768 t`, at row 0, -/
theorem index_eq : ∀ t : Fin grid0.N, (win0_2.index t 0 = 0 ∧ win0_2.index t 1 = t.val) ∧ (win0_3.index t 0 = 0 ∧ win0_3.index t 1 = t.val)
    ∧ (win0_4.index t 0 = 0 ∧ win0_4.index t 1 = t.val) := by decide +kernel

/-- and reach as far as the array does. -/
theorem xsize_eq : ∀ t : Fin grid0.N, (win0_2.xsize (grid0.coords t) 0 = 5440 ∧ win0_2.xsize (grid0.coords t) 1 = min 768 (29824 - 768 * t.val))
    ∧ (win0_3.xsize (grid0.coords t) 0 = 680 ∧ win0_3.xsize (grid0.coords t) 1 = min 768 (29824 - 768 * t.val))
    ∧ (win0_4.xsize (grid0.coords t) 0 = 48 ∧ win0_4.xsize (grid0.coords t) 1 = min 768 (29824 - 768 * t.val)) := by decide +kernel

/-- The packed weights' staged block, in the columns inside the array. -/
theorem fill2_at (c : Dev nD) (t : Fin cfg0.N) (d) (k : Fin 5440) (l : Fin 768) (h : 768 * t.val + l.val < 29824) :
    (cfg0.win 2).fill (grid0.coords t) d (iblk m c 2 t) (ix2 k l) = m ((c : Thread nD τ).loc main_arg1) (ix2 k ⟨768 * t.val + l.val, h⟩) := by
  have hx := (xsize_eq t).1
  have hi := (index_eq t).1
  have hk := k.isLt
  have hl := l.isLt
  have hm : (cfg0.win 2).moved (grid0.coords t) (ix2 k l) = true := ((cfg0.win 2).moved_iff _ _).mpr fun a => by
    match a with
    | ⟨0, _⟩ => show k.val < win0_2.xsize (grid0.coords t) 0; rw [hx.1]; exact hk
    | ⟨1, _⟩ => show l.val < win0_2.xsize (grid0.coords t) 1; rw [hx.2]; omega
  unfold Window.fill iblk
  rw [dif_pos hm, View.read_apply]
  show V m c main_arg1 _ = _
  rw [V_main_arg1]
  congr 1
  funext a
  apply Fin.ext
  match a with
  | ⟨0, _⟩ => show win0_2.index t 0 * 5440 + 1 * k.val = k.val; rw [hi.1]; omega
  | ⟨1, _⟩ => show win0_2.index t 1 * 768 + 1 * l.val = 768 * t.val + l.val; rw [hi.2]; omega

/-- The scales' staged block, in the columns inside the array. -/
theorem fill3_at (c : Dev nD) (t : Fin cfg0.N) (d) (k : Fin 680) (l : Fin 768) (h : 768 * t.val + l.val < 29824) :
    (cfg0.win 3).fill (grid0.coords t) d (iblk m c 3 t) (ix2 k l) = m ((c : Thread nD τ).loc main_arg2) (ix2 k ⟨768 * t.val + l.val, h⟩) := by
  have hx := (xsize_eq t).2.1
  have hi := (index_eq t).2.1
  have hk := k.isLt
  have hl := l.isLt
  have hm : (cfg0.win 3).moved (grid0.coords t) (ix2 k l) = true := ((cfg0.win 3).moved_iff _ _).mpr fun a => by
    match a with
    | ⟨0, _⟩ => show k.val < win0_3.xsize (grid0.coords t) 0; rw [hx.1]; exact hk
    | ⟨1, _⟩ => show l.val < win0_3.xsize (grid0.coords t) 1; rw [hx.2]; omega
  unfold Window.fill iblk
  rw [dif_pos hm, View.read_apply]
  show V m c main_arg2 _ = _
  rw [V_main_arg2]
  congr 1
  funext a
  apply Fin.ext
  match a with
  | ⟨0, _⟩ => show win0_3.index t 0 * 680 + 1 * k.val = k.val; rw [hi.1]; omega
  | ⟨1, _⟩ => show win0_3.index t 1 * 768 + 1 * l.val = 768 * t.val + l.val; rw [hi.2]; omega

/-- The activations' block is the argument with its middle axis dropped. -/
theorem iblk1_eq (c : Dev nD) (t : Fin cfg0.N) : (iblk m c 1 t : Vec Ideal S48x10880 .bf16) = flat (m ((c : Thread nD τ).loc main_arg0)) := by
  funext j
  unfold iblk
  rw [View.read_apply]
  have e : (((cfg0.win 1).blk t).view.emb j : S48x10880.Idx) = j := by
    funext a
    apply Fin.ext
    match a with
    | ⟨0, _⟩ => show 0 * 48 + 1 * (j 0).val = (j 0).val; omega
    | ⟨1, _⟩ => show 0 * 10880 + 1 * (j 1).val = (j 1).val; omega
  rw [e]
  show V m c main_v1 j = _
  entry_read
  pointwise
  rfl

/-- The global scale's block holds the argument's one entry. -/
theorem iblk0_at (c : Dev nD) (t : Fin cfg0.N) : (iblk m c 0 t : Vec Ideal S1 .f32) zero1 = m ((c : Thread nD τ).loc main_arg3) fun a => a.elim0 := by
  unfold iblk
  rw [View.read_apply]
  show V m c main_v0 _ = _
  entry_read
  pointwise
  exact congrArg _ (funext fun a => a.elim0)

/-- What the tile holds in the columns inside the array, whatever the staged blocks hold past the end: the formula's
    entries of those columns. -/
theorem cut_tile (c : Dev nD) (t : Fin cfg0.N) (d2 d3) :
    (cfg0.win 4).cut (grid0.coords t) (tile (iblk m c 0 t) (iblk m c 1 t) ((cfg0.win 2).fill (grid0.coords t) d2 (iblk m c 2 t)) ((cfg0.win 3).fill (grid0.coords t) d3 (iblk m c 3 t)))
      = ((cfg0.win 4).blk t).view.read (Elt Ideal) (res m c) := by
  funext j
  have hx := (xsize_eq t).2.2
  have hi := (index_eq t).2.2
  have hj0 : (j 0).val < 48 := lt_of_lt_of_eq (j 0).isLt hx.1
  have hj1 : (j 1).val < min 768 (29824 - 768 * t.val) := lt_of_lt_of_eq (j 1).isLt hx.2
  have hn : 768 * t.val + (j 1).val < 29824 := by omega
  have e : (cfg0.win 4).xinj (grid0.coords t) j = ix2 (⟨(j 0).val, hj0⟩ : Fin 48) (⟨(j 1).val, by omega⟩ : Fin 768) := by
    funext a
    match a with
    | ⟨0, _⟩ => rfl
    | ⟨1, _⟩ => rfl
  show tile _ _ _ _ ((cfg0.win 4).xinj (grid0.coords t) j) = _
  rw [e, tile_at, View.read_apply, iblk0_at, iblk1_eq]
  have e' : (((cfg0.win 4).blk t).view.emb j : S48x29824.Idx) = ix2 (⟨(j 0).val, hj0⟩ : Fin 48) (⟨768 * t.val + (j 1).val, hn⟩ : Fin 29824) := by
    funext a
    apply Fin.ext
    match a with
    | ⟨0, _⟩ => show win0_4.index t 0 * 48 + 1 * (j 0).val = (j 0).val; rw [hi.1]; omega
    | ⟨1, _⟩ => show win0_4.index t 1 * 768 + 1 * (j 1).val = 768 * t.val + (j 1).val; rw [hi.2]; omega
  rw [e']
  exact out_congr _ _ _ _ _ _ _ _ _ (fun k => fill2_at m c t d2 k _ hn) (fun k => fill3_at m c t d3 k _ hn)

/-- The scratch buffer and the generator register, conjunct by conjunct. -/
theorem PhiA_eq (c : Dev nD) : (Pipeline.ΦA spec0 c : sProp 𝕄)
    = iprop((∃ d, owns (c : Thread nD τ) (Memref.whole cc0_scratch0) fullShare d) ∗ (∃ r, prngReg c r)) := by
  unfold Pipeline.ΦA; rw [scopedRest0_eq]; simp only [owns_whole]; try rfl

/-- The proof data: arrays as the region finds them; after the body the inputs' buffers hold their blocks (past the
    array's end, where a block overhangs, any filler), the output's the tile of those. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (cfg0.win 2).fill (grid0.coords t) default (iblk m c 2 t)
    | ⟨3, _⟩ => (cfg0.win 3).fill (grid0.coords t) default (iblk m c 3 t)
    | ⟨4, _⟩ => tile (iblk m c 0 t) (iblk m c 1 t) ((cfg0.win 2).fill (grid0.coords t) default (iblk m c 2 t)) ((cfg0.win 3).fill (grid0.coords t) default (iblk m c 3 t))
  Φ _ := Pipeline.ΦA spec0 c
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = (cfg0.win 2).fill (grid0.coords t) default (iblk m c 2 t) := by dsimp only [dats]
theorem after0_3 (c : Dev nD) (t : Fin cfg0.N) : (dats m 0 c).after 3 t = (cfg0.win 3).fill (grid0.coords t) default (iblk m c 3 t) := by dsimp only [dats]
theorem after0_4 (c : Dev nD) (t : Fin cfg0.N) : (dats m 0 c).after 4 t
    = tile (iblk m c 0 t) (iblk m c 1 t) ((cfg0.win 2).fill (grid0.coords t) default (iblk m c 2 t)) ((cfg0.win 3).fill (grid0.coords t) default (iblk m c 3 t)) := by dsimp only [dats]

/-- What the body finds in the inputs' buffers: each window's block, past the array's end whatever was there. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = (cfg0.win 2).fill (grid0.coords t) d (iblk m c 2 t) := by
  unfold Dat.before; rw [if_pos (fetch0_2 t)]; rfl
theorem before0_3 (c : Dev nD) (t : Fin cfg0.N) (d) : (dats m 0 c).before 3 t d = (cfg0.win 3).fill (grid0.coords t) d (iblk m c 3 t) := by
  unfold Dat.before; rw [if_pos (fetch0_3 t)]; rfl

/-- The body table's row at point `t`'s slots is the body as `bodyAt0` spells it. -/
theorem defs₀_row (t : Fin cfg0.N) :
    defs₀ (F := Ideal) .tc cfg0.body (cfg0.bodyArgs t (cfg0.slots t)) = bodyAt0 t := by
  unfold defs₀; rw [Defs.onTc_tc]

/-- The body's obligation at every grid point, from `body_run`: the three overhanging windows are stated on the columns
    inside the array only, where the tile does not depend on the filler (`cut_tile`). -/
theorem body_obligation (c : Dev nD) : BodyObligationLoose (dats m 0 c) (defs₀ (F := Ideal)) Variants.none () Set.univ := fun t => by
  rw [bigSep_W0, bigSep_W0, defs₀_row]
  simp only
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl, PhiA_eq]
  iintro ⟨⟨Hsc, Hr⟩, Ho, ⟨%d0, H0⟩, ⟨%d1, H1⟩, ⟨%d2, H2⟩, ⟨%d3, H3⟩, ⟨%d4, H4⟩⟩
  rw [before0_0 m c t d0, before0_1 m c t d1, before0_2 m c t d2, before0_3 m c t d3]
  iapply (body_run (F := Ideal) c _ _ _ _ _ _ _ _ _ _ _ _ _ (iblk m c 0 t) (iblk m c 1 t) ((cfg0.win 2).fill (grid0.coords t) d2 (iblk m c 2 t)) ((cfg0.win 3).fill (grid0.coords t) d3 (iblk m c 3 t)) Set.univ _)
  isplitl [H0]; · iexact H0
  isplitl [H1]; · iexact H1
  isplitl [H2]; · iexact H2
  isplitl [H3]; · iexact H3
  isplitl [H4]; · iexists _; iexact H4
  isplitl [Hsc]; · iexact Hsc
  iintro ⟨H0, H1, H2, H3, H4, H5⟩
  isplitl [H5 Hr]
  · isplitl [H5]; · iexact H5
    iexact Hr
  isplitl [Ho]; · iexact Ho
  isplitl [H0]; · iexact H0
  isplitl [H1]; · iexact H1
  isplitl [H2]
  · iexists d2
    change _ ⊢ owns (c : Thread nD τ) ((cfg0.win 2).stage (cfg0.slots t 2)) fullShare ((cfg0.win 2).fill (grid0.coords t) d2 ((cfg0.win 2).cut (grid0.coords t) ((dats m 0 c).after 2 t)))
    rw [after0_2, Window.cut_fill]; try iexact H2
  isplitl [H3]
  · iexists d3
    change _ ⊢ owns (c : Thread nD τ) ((cfg0.win 3).stage (cfg0.slots t 3)) fullShare ((cfg0.win 3).fill (grid0.coords t) d3 ((cfg0.win 3).cut (grid0.coords t) ((dats m 0 c).after 3 t)))
    rw [after0_3, Window.cut_fill]; try iexact H3
  · iexists (tile (iblk m c 0 t) (iblk m c 1 t) ((cfg0.win 2).fill (grid0.coords t) d2 (iblk m c 2 t)) ((cfg0.win 3).fill (grid0.coords t) d3 (iblk m c 3 t)))
    change _ ⊢ owns (c : Thread nD τ) ((cfg0.win 4).stage (cfg0.slots t 4)) fullShare ((cfg0.win 4).fill (grid0.coords t) (tile (iblk m c 0 t) (iblk m c 1 t) ((cfg0.win 2).fill (grid0.coords t) d2 (iblk m c 2 t)) ((cfg0.win 3).fill (grid0.coords t) d3 (iblk m c 3 t))) ((cfg0.win 4).cut (grid0.coords t) ((dats m 0 c).after 4 t)))
    rw [after0_4, cut_tile, ← cut_tile m c t d2 d3, Window.fill_cut]; try iexact H4

set_option backward.isDefEq.respectTransparency.types false in
/-- Every run terminates, the arrays as the proof data say and every semaphore counter at zero. -/
theorem run_main_quiescent : θ_run defs (onTc (τ := τ) (main (F := Ideal))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => body_obligation m c) (hshare := fun c => (dats m 0 c).share_full fun _ => rfl)
    (howed := fun _ _ => rfl) (V := V m) (hmain := hmain m Variants.none) (hA := A_eq m) (hΦ := fun _ _ => rfl)

/-- Every point writes the formula's entries of its columns back. -/
theorem flushed_eq (c : Dev nD) (t : Fin cfg0.N) (hf : (cfg0.win 4).flush t = true) :
    (dats m 0 c).flushed 4 t = ((cfg0.win 4).blk t).view.read (Elt Ideal) (res m c) := by
  show (cfg0.win 4).cut (grid0.coords t) ((dats m 0 c).after 4 t) = _
  rw [after0_4]
  exact cut_tile m c t _ _

/-- The 39 column tiles cover the result: it ends at the formula. -/
theorem final_o (c : Dev nD) : (dats m 0 c).arrAt 4 cfg0.N = res m c :=
  (dats m 0 c).arrAt_eq_of_cover 4 (res m c) (flushed_eq m c) fun i => by
    have h0 : (i 0 : Nat) < 48 := (i 0).isLt
    have h1 : (i 1 : Nat) < 29824 := (i 1).isLt
    have hN : cfg0.N = 39 := N_0
    have ht : (i 1 : Nat) / 768 < cfg0.N := by omega
    refine ⟨⟨(i 1 : Nat) / 768, ht⟩, flush0_4 _, ?_⟩
    show i ∈ ((View.whole main_v2).slice (win0_4.rect ⟨(i 1 : Nat) / 768, ht⟩)).set
    rw [View.set_slice_whole, Rect.mem_set_unit]
    have hx := (xsize_eq ⟨(i 1 : Nat) / 768, ht⟩).2.2
    have hi := (index_eq ⟨(i 1 : Nat) / 768, ht⟩).2.2
    intro a
    match a with
    | ⟨0, _⟩ =>
      show win0_4.index ⟨(i 1 : Nat) / 768, ht⟩ 0 * 48 ≤ (i 0 : Nat) ∧ (i 0 : Nat) < win0_4.index ⟨(i 1 : Nat) / 768, ht⟩ 0 * 48 + win0_4.xsize (grid0.coords ⟨(i 1 : Nat) / 768, ht⟩) 0
      rw [hx.1, hi.1]; omega
    | ⟨1, _⟩ =>
      show win0_4.index ⟨(i 1 : Nat) / 768, ht⟩ 1 * 768 ≤ (i 1 : Nat) ∧ (i 1 : Nat) < win0_4.index ⟨(i 1 : Nat) / 768, ht⟩ 1 * 768 + win0_4.xsize (grid0.coords ⟨(i 1 : Nat) / 768, ht⟩) 1
      rw [hx.2, hi.2]; dsimp only; omega

/-- THE RUN, READ: the result at the formula, the four arguments unchanged. -/
theorem run : θ_run defs (onTc (τ := τ) (main (F := Ideal))) ⟨m, fun _ => 0, ρ⟩ (fun r => ∀ c : Dev nD,
      r.2.mem ((c.tc : Thread nD τ).loc main_v2) = res m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h.1 c).1 4).trans (final_o m c), h.2 c⟩)
    (θ_run_and ((θ_run defs _ _).mono (fun _ h => h.1) (run_main_quiescent m ρ))
      (frame_of m ρ (dats m) (A_eq m) ((θ_run defs _ _).mono (fun _ h => h.1) (run_main_quiescent m ρ))))

/-- THE FRAME: every run terminates, the four argument arrays end as they were and every semaphore counter at zero. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and ((θ_run defs _ _).mono (fun _ h c => (h c).2) (run m ρ)) ((θ_run defs _ _).mono (fun _ h => h.2) (run_main_quiescent m ρ))

end Cert.KernelIdeal.Value

end
-- ==== Proof.RefValue.lean ====
/-
  The reference at the extended reals: its one gridless kernel, from the even and the odd columns of the activations,
  leaves the plain formula in the result.
-/
module

public import proofs.«01_k».proof.Proof.Formula
public import proofs.«01_k».proof.Proof.Gen.ReferenceIdeal.Frame
public import Idealize.ShloMosaic.Lib.Pipeline.Value
public import Idealize.ShloMosaic.Lib.Claim

@[expose] public section

set_option maxRecDepth 16384

noncomputable section

namespace Cert.ReferenceIdeal.Run

open Cert.ReferenceIdeal Cert.ReferenceIdeal.Gen
open Idealize.ShloMosaic Idealize.ShloMosaic.TcCoe Idealize.ShloMosaic.Tactic Idealize.SL.Sem
open Idealize.ShloMosaic.Pipeline (Dat)
open Cert.Formula

/-- The reference's formula at an entry, for activations whose even and odd columns are `xe` and `xo`. -/
theorem body_at (x : Vec Ideal S48x10880 .bf16) (p : Vec Ideal S5440x29824 .i8) (s : Vec Ideal S680x29824 .fp8e4m3) (xe xo : Vec Ideal S48x5440 .bf16) (g : EReal)
    (he : ∀ (r : Fin 48) (k : Fin 5440), xe (ix2 r k) = x (ix2 r ⟨2 * k.val, by omega⟩))
    (ho : ∀ (r : Fin 48) (k : Fin 5440), xo (ix2 r k) = x (ix2 r ⟨2 * k.val + 1, by omega⟩))
    (r : Fin 48) (l : Fin 29824) :
    k0_pay1 (F := Ideal) (k0_pay2 s p xe xo) g (ix2 r l) = out g x p s r l := by
  pointwise [k0_pay1, k0_pay2]
  unfold out
  refine Eq.trans ?_ (congrArg (· * g) (part_two_mul _ _ _ 5440).symm)
  show _ = (_ + _) * g
  congr 2
  · refine Finset.sum_congr rfl fun k _ => ?_
    have hk := k.isLt
    unfold term
    rw [low_bits, mul_comm (s _), ← mul_assoc (Ideal.ofBits _ _), enc_code, he, ext_lt 0 _ (show 2 * k.val < 10880 by omega),
      ext_lt 0 _ (show 2 * k.val / 2 < 5440 by omega), ext_lt 0 _ (show 2 * k.val / 16 < 680 by omega), show 2 * k.val % 2 = 0 by omega]
    simp only [show 2 * k.val / 2 = k.val by omega, show 2 * k.val / 16 = k.val / 8 by omega]
  · refine Finset.sum_congr rfl fun k _ => ?_
    have hk := k.isLt
    unfold term
    rw [high_bits, mul_comm (s _), ← mul_assoc (Ideal.ofBits _ _), enc_code, ho, ext_lt 0 _ (show 2 * k.val + 1 < 10880 by omega),
      ext_lt 0 _ (show (2 * k.val + 1) / 2 < 5440 by omega), ext_lt 0 _ (show (2 * k.val + 1) / 16 < 680 by omega), show (2 * k.val + 1) % 2 = 1 by omega]
    simp only [show (2 * k.val + 1) / 2 = k.val by omega, show (2 * k.val + 1) / 16 = k.val / 8 by omega]

theorem hz : (![0, 0] : Fin 2 → Nat) = fun _ => 0 := funext fun a => by fin_cases a <;> rfl

/-- The only index of a one-element array. -/
def zero1 : S1.Idx := fun a => ⟨0, by fin_cases a; exact Nat.zero_lt_one⟩

theorem eq_zero1 (z : S1.Idx) : z = zero1 := funext fun a => Fin.ext (by
  have h : (z a).val < 1 := by have := (z a).isLt; fin_cases a; exact this
  show (z a).val = 0
  omega)

/-- What the body's run leaves in the output's buffer: its one covering store's payload. -/
theorem out_A (c : Dev nD) (arg0 : Memref sig .tc .vmem S48x5440 .bf16) (harg0 : arg0.IsWhole) (arg1 : Memref sig .tc .vmem S48x5440 .bf16) (harg1 : arg1.IsWhole) (arg2 : Memref sig .tc .vmem S5440x29824 .i8) (harg2 : arg2.IsWhole) (arg3 : Memref sig .tc .vmem S680x29824 .fp8e4m3) (harg3 : arg3.IsWhole) (arg4 : Memref sig .tc .smem S1 .f32) (harg4 : arg4.IsWhole) (arg5 : Memref sig .tc .vmem S48x29824 .bf16) (harg5 : arg5.IsWhole)
    (x0 : Vec Ideal S48x5440 .bf16) (x1 : Vec Ideal S48x5440 .bf16) (x2 : Vec Ideal S5440x29824 .i8) (x3 : Vec Ideal S680x29824 .fp8e4m3) (x4 : Vec Ideal S1 .f32) :
    out0_A_5 c arg0 harg0 arg1 harg1 arg2 harg2 arg3 harg3 arg4 harg4 arg5 harg5 x0 x1 x2 x3 x4 = k0_pay1 (k0_pay2 x3 x2 x0 x1) (x4 zero1) := by
  unfold out0_A_5
  rw [View.read_writes_eq_canon _ _ _ (cover0_A_5 c arg0 harg0 arg1 harg1 arg2 harg2 arg3 harg3 arg4 harg4 arg5 harg5 x0 x1 x2 x3 x4)]
  unfold kernelRun0_A
  dsimp only
  sl_unfold_words
  rw [View.canon_unit_zero hz]
  simp only [View.readAt_eq_ld, harg0.read_unread, harg1.read_unread, harg2.read_unread, harg3.read_unread, harg4.read_unread,
    View.ld_unit_zero (S := S48x5440) hz, View.ld_unit_zero (S := S5440x29824) hz, View.ld_unit_zero (S := S680x29824) hz]
  exact congrArg (fun z => k0_pay1 (k0_pay2 x3 x2 x0 x1) (x4 z)) (eq_zero1 _)

variable (m : (ℓ : Loc nD τ sig) → Buf (Elt Ideal) ℓ) (ρ : Dev nD → PrngReg)

/-- The formula at the launch contents of the arguments. -/
abbrev res (c : Dev nD) : Buf (Elt Ideal) ((c : Thread nD τ).loc main_v4) :=
  result (m ((c : Thread nD τ).loc main_arg0)) (m ((c : Thread nD τ).loc main_arg1)) (m ((c : Thread nD τ).loc main_arg2)) (m ((c : Thread nD τ).loc main_arg3))

/-- The even columns of the activations. -/
theorem iblk0_at (c : Dev nD) (t : Fin cfg0.N) (r : Fin 48) (k : Fin 5440) :
    (iblk m c 0 t : Vec Ideal S48x5440 .bf16) (ix2 r k) = flat (m ((c : Thread nD τ).loc main_arg0)) (ix2 r ⟨2 * k.val, by omega⟩) := by
  unfold iblk
  rw [View.read_apply]
  have e : (((cfg0.win 0).blk t).view.emb (ix2 r k) : S48x5440.Idx) = ix2 r k := by
    funext a
    apply Fin.ext
    match a with
    | ⟨0, _⟩ => show 0 * 48 + 1 * r.val = r.val; omega
    | ⟨1, _⟩ => show 0 * 5440 + 1 * k.val = k.val; omega
  rw [e]
  show V m c main_v1 (ix2 r k) = _
  entry_read
  pointwise
  rfl

/-- The odd columns of the activations. -/
theorem iblk1_at (c : Dev nD) (t : Fin cfg0.N) (r : Fin 48) (k : Fin 5440) :
    (iblk m c 1 t : Vec Ideal S48x5440 .bf16) (ix2 r k) = flat (m ((c : Thread nD τ).loc main_arg0)) (ix2 r ⟨2 * k.val + 1, by omega⟩) := by
  unfold iblk
  rw [View.read_apply]
  have e : (((cfg0.win 1).blk t).view.emb (ix2 r k) : S48x5440.Idx) = ix2 r k := by
    funext a
    apply Fin.ext
    match a with
    | ⟨0, _⟩ => show 0 * 48 + 1 * r.val = r.val; omega
    | ⟨1, _⟩ => show 0 * 5440 + 1 * k.val = k.val; omega
  rw [e]
  show V m c main_v2 (ix2 r k) = _
  entry_read
  pointwise
  simp only [Nat.add_comm 1]
  rfl

/-- The packed weights, the scales, the global scale: whole arrays. -/
theorem iblk2_eq (c : Dev nD) (t : Fin cfg0.N) : (iblk m c 2 t : Vec Ideal S5440x29824 .i8) = m ((c : Thread nD τ).loc main_arg1) := by
  funext j
  unfold iblk
  rw [View.read_apply]
  show V m c main_arg1 _ = _
  rw [V_main_arg1]
  congr 1
  funext a
  apply Fin.ext
  match a with
  | ⟨0, _⟩ => show 0 * 5440 + 1 * (j 0).val = (j 0).val; omega
  | ⟨1, _⟩ => show 0 * 29824 + 1 * (j 1).val = (j 1).val; omega

theorem iblk3_eq (c : Dev nD) (t : Fin cfg0.N) : (iblk m c 3 t : Vec Ideal S680x29824 .fp8e4m3) = m ((c : Thread nD τ).loc main_arg2) := by
  funext j
  unfold iblk
  rw [View.read_apply]
  show V m c main_arg2 _ = _
  rw [V_main_arg2]
  congr 1
  funext a
  apply Fin.ext
  match a with
  | ⟨0, _⟩ => show 0 * 680 + 1 * (j 0).val = (j 0).val; omega
  | ⟨1, _⟩ => show 0 * 29824 + 1 * (j 1).val = (j 1).val; omega

theorem iblk4_at (c : Dev nD) (t : Fin cfg0.N) : (iblk m c 4 t : Vec Ideal S1 .f32) zero1 = m ((c : Thread nD τ).loc main_arg3) fun a => a.elim0 := by
  unfold iblk
  rw [View.read_apply]
  show V m c main_v3 _ = _
  entry_read
  pointwise
  exact congrArg _ (funext fun a => a.elim0)

/-- The one point leaves the formula in the output's buffer. -/
theorem outsAt_eq (c : Dev nD) (t : Fin cfg0.N) : outsAt0 m c t = res m c := by
  unfold outsAt0
  rw [out_A]
  funext i
  refine (congrArg _ (eq_ix2 i)).trans ((body_at (flat (m ((c : Thread nD τ).loc main_arg0))) _ _ _ _ _ (iblk0_at m c t) (iblk1_at m c t) (i 0) (i 1)).trans ?_)
  rw [iblk2_eq, iblk3_eq, iblk4_at]
  rfl

/-- Its one write-back writes it to the whole result. -/
theorem flushed_eq (c : Dev nD) (t : Fin cfg0.N) (hf : (cfg0.win 5).flush t = true) :
    (dats m 0 c).flushed 5 t = ((cfg0.win 5).blk t).view.read (Elt Ideal) (res m c) := by
  show (cfg0.win 5).cut (grid0.coords t) ((dats m 0 c).after 5 t) = _
  rw [after0_5, outsAt_eq]
  funext j
  rw [View.read_apply]
  show res m c ((cfg0.win 5).xinj (grid0.coords t) j) = _
  congr 1
  funext a
  apply Fin.ext
  match a with
  | ⟨0, _⟩ => show (j 0).val = 0 * 48 + 1 * (j 0).val; omega
  | ⟨1, _⟩ => show (j 1).val = 0 * 29824 + 1 * (j 1).val; omega

theorem final_o (c : Dev nD) : (dats m 0 c).arrAt 5 cfg0.N = res m c :=
  (dats m 0 c).arrAt_eq_of_cover 5 (res m c) (flushed_eq m c) fun i => by
    have h0 : (i 0 : Nat) < 48 := (i 0).isLt
    have h1 : (i 1 : Nat) < 29824 := (i 1).isLt
    have ht : 0 < cfg0.N := by decide
    refine ⟨⟨0, ht⟩, (by decide +kernel : ∀ t : Fin cfg0.N, (cfg0.win 5).flush t = true) _, ?_⟩
    show i ∈ ((View.whole main_v4).slice (win0_5.rect ⟨0, ht⟩)).set
    rw [View.set_slice_whole, Rect.mem_set_unit]
    intro a
    match a with
    | ⟨0, _⟩ => show 0 * 48 ≤ (i 0 : Nat) ∧ (i 0 : Nat) < 0 * 48 + 48; omega
    | ⟨1, _⟩ => show 0 * 29824 ≤ (i 1 : Nat) ∧ (i 1 : Nat) < 0 * 29824 + 29824; omega

/-- THE RUN, READ: the result at the formula, the four arguments unchanged. -/
theorem run : θ_run defs (onTc (τ := τ) (main (F := Ideal))) ⟨m, fun _ => 0, ρ⟩ (fun r => ∀ c : Dev nD,
      r.2.mem ((c.tc : Thread nD τ).loc main_v4) = res m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h.1 c).1 5).trans (final_o m c), h.2 c⟩)
    (θ_run_and (run_main m ρ) (unchanged m ρ))

end Cert.ReferenceIdeal.Run

end
-- ==== Proof.lean ====
/- The proof of the certificate: the frames of the three programs, the claim relating the kernel to its idealization, and
   the value claim: at the extended reals the kernel and the reference end with equal results. -/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.KernelRun
public import proofs.«01_k».proof.Proof.IdealRun
public import proofs.«01_k».proof.Proof.RefValue
public import Idealize.ShloMosaic.Adequacy
public import Idealize.ShloMosaic.Init

@[expose] public section

noncomputable section

namespace Cert.Proof

open Idealize.ShloMosaic Idealize.SL.Sem Cert.Kernel

/-- The value claim: from memories agreeing on the arguments, both programs end with the formula
    `Cert.Formula.result` of those arguments in their result, and the arguments unchanged. -/
theorem algebraic : Cert.algebraic_KernelIdeal_ReferenceIdeal (hKernelIdeal := Cert.KernelIdeal.Gen.facts) (hReferenceIdeal := Cert.ReferenceIdeal.Gen.facts) := by
  intro m g m' g' _ hargs
  refine ⟨fun c => Cert.KernelIdeal.Value.res m c, Cert.KernelIdeal.Value.run m g, ?_⟩
  refine (θ_run Cert.ReferenceIdeal.defs _ _).mono (fun _ h c => ⟨(h c).1.trans ?_, (h c).2⟩) (Cert.ReferenceIdeal.Run.run m' g')
  obtain ⟨h0, h1, h2, h3⟩ := hargs c
  show Cert.Formula.result _ _ _ _ = Cert.Formula.result _ _ _ _
  rw [← h0, ← h1, ← h2, ← h3]

/-- The five claims. -/
theorem claim : Cert.Claim := ⟨Cert.Kernel.Gen.facts, Cert.KernelIdeal.Gen.facts, Cert.ReferenceIdeal.Gen.facts,
  fun m ρ _ => Cert.Kernel.Run.frame m ρ, fun m ρ _ => Cert.KernelIdeal.Value.frame m ρ, fun m ρ _ => Cert.ReferenceIdeal.Gen.frame m ρ, trivial, algebraic⟩

end Cert.Proof

end
